-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_v22) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x256x7168 : Shape := ⟨3, ![4, 256, 7168]⟩
abbrev S4x8x224 : Shape := ⟨3, ![4, 8, 224]⟩
abbrev S4x256x2560 : Shape := ⟨3, ![4, 256, 2560]⟩
abbrev S4x8x80 : Shape := ⟨3, ![4, 8, 80]⟩
abbrev S32x224 : Shape := ⟨2, ![32, 224]⟩
abbrev S32x224x32 : Shape := ⟨3, ![32, 224, 32]⟩
abbrev S32x7168 : Shape := ⟨2, ![32, 7168]⟩
abbrev S32x80 : Shape := ⟨2, ![32, 80]⟩
abbrev S32x80x32 : Shape := ⟨3, ![32, 80, 32]⟩
abbrev S32x2560 : Shape := ⟨2, ![32, 2560]⟩
abbrev S1024x7168 : Shape := ⟨2, ![1024, 7168]⟩
abbrev S1024x2560 : Shape := ⟨2, ![1024, 2560]⟩
abbrev S7168x2560 : Shape := ⟨2, ![7168, 2560]⟩
abbrev S1x2560 : Shape := ⟨2, ![1, 2560]⟩
abbrev S1024x512 : Shape := ⟨2, ![1024, 512]⟩
abbrev S32x512 : Shape := ⟨2, ![32, 512]⟩
abbrev S512x2560 : Shape := ⟨2, ![512, 2560]⟩
abbrev S32x1x2560 : Shape := ⟨3, ![32, 1, 2560]⟩
abbrev S32x32x2560 : Shape := ⟨3, ![32, 32, 2560]⟩
abbrev S2560 : Shape := ⟨1, ![2560]⟩
abbrev S32x1x512 : Shape := ⟨3, ![32, 1, 512]⟩
abbrev S32x32x512 : Shape := ⟨3, ![32, 32, 512]⟩

abbrev nBuf : Space → Nat
  | .hbm => 15
  | .vmem => 10
  | .smem => 0
  | _ => 0

abbrev bufTy : (tb : Table) → Fin (tcTables nBuf tb) → BufTy
  | .hbm, ⟨0, _⟩ => ⟨S4x256x7168, .i8⟩
  | .hbm, ⟨1, _⟩ => ⟨S4x8x224, .f32⟩
  | .hbm, ⟨2, _⟩ => ⟨S4x256x2560, .i8⟩
  | .hbm, ⟨3, _⟩ => ⟨S4x8x80, .f32⟩
  | .hbm, ⟨4, _⟩ => ⟨S32x224, .f32⟩
  | .hbm, ⟨5, _⟩ => ⟨S32x224x32, .f32⟩
  | .hbm, ⟨6, _⟩ => ⟨S32x7168, .f32⟩
  | .hbm, ⟨7, _⟩ => ⟨S32x80, .f32⟩
  | .hbm, ⟨8, _⟩ => ⟨S32x80x32, .f32⟩
  | .hbm, ⟨9, _⟩ => ⟨S32x2560, .f32⟩
  | .hbm, ⟨10, _⟩ => ⟨S1024x7168, .i8⟩
  | .hbm, ⟨11, _⟩ => ⟨S1024x2560, .i8⟩
  | .hbm, ⟨12, _⟩ => ⟨S7168x2560, .f32⟩
  | .hbm, ⟨13, _⟩ => ⟨S1x2560, .f32⟩
  | .hbm, ⟨14, _⟩ => ⟨S2560, .f32⟩
  | .local _ .vmem, ⟨0, _⟩ => ⟨S1024x512, .i8⟩
  | .local _ .vmem, ⟨1, _⟩ => ⟨S1024x512, .i8⟩
  | .local _ .vmem, ⟨2, _⟩ => ⟨S32x512, .f32⟩
  | .local _ .vmem, ⟨3, _⟩ => ⟨S32x512, .f32⟩
  | .local _ .vmem, ⟨4, _⟩ => ⟨S1024x2560, .i8⟩
  | .local _ .vmem, ⟨5, _⟩ => ⟨S32x2560, .f32⟩
  | .local _ .vmem, ⟨6, _⟩ => ⟨S512x2560, .f32⟩
  | .local _ .vmem, ⟨7, _⟩ => ⟨S512x2560, .f32⟩
  | .local _ .vmem, ⟨8, _⟩ => ⟨S1x2560, .f32⟩
  | .local _ .vmem, ⟨9, _⟩ => ⟨S1024x2560, .bf16⟩
  | _, _ => ⟨S4x256x7168, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8_0 : Ref sig .tc := ⟨.hbm, 12, rfl⟩
abbrev main_v8_1 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![14], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2560 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x2560 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2560 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2560 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S4x256x7168 : Shape := ⟨3, ![4, 256, 7168]⟩
abbrev S4x8x224 : Shape := ⟨3, ![4, 8, 224]⟩
abbrev S4x256x2560 : Shape := ⟨3, ![4, 256, 2560]⟩
abbrev S4x8x80 : Shape := ⟨3, ![4, 8, 80]⟩
abbrev S4x8x224x32 : Shape := ⟨4, ![4, 8, 224, 32]⟩
abbrev S4x8x7168 : Shape := ⟨3, ![4, 8, 7168]⟩
abbrev S4x8x32x7168 : Shape := ⟨4, ![4, 8, 32, 7168]⟩
abbrev S4x8x1x7168 : Shape := ⟨4, ![4, 8, 1, 7168]⟩
abbrev S1024x7168 : Shape := ⟨2, ![1024, 7168]⟩
abbrev S4x8x80x32 : Shape := ⟨4, ![4, 8, 80, 32]⟩
abbrev S4x8x2560 : Shape := ⟨3, ![4, 8, 2560]⟩
abbrev S4x8x32x2560 : Shape := ⟨4, ![4, 8, 32, 2560]⟩
abbrev S4x8x1x2560 : Shape := ⟨4, ![4, 8, 1, 2560]⟩
abbrev S1024x2560 : Shape := ⟨2, ![1024, 2560]⟩
abbrev S7168x2560 : Shape := ⟨2, ![7168, 2560]⟩
abbrev S_ : Shape := ⟨0, ![]⟩
abbrev S2560 : Shape := ⟨1, ![2560]⟩

abbrev nBuf : Space → Nat
  | .hbm => 28
  | .vmem => 0
  | .smem => 0
  | _ => 0

abbrev bufTy : (tb : Table) → Fin (tcTables nBuf tb) → BufTy
  | .hbm, ⟨0, _⟩ => ⟨S4x256x7168, .i8⟩
  | .hbm, ⟨1, _⟩ => ⟨S4x8x224, .f32⟩
  | .hbm, ⟨2, _⟩ => ⟨S4x256x2560, .i8⟩
  | .hbm, ⟨3, _⟩ => ⟨S4x8x80, .f32⟩
  | .hbm, ⟨4, _⟩ => ⟨S4x8x224, .bf16⟩
  | .hbm, ⟨5, _⟩ => ⟨S4x8x224x32, .bf16⟩
  | .hbm, ⟨6, _⟩ => ⟨S4x8x7168, .bf16⟩
  | .hbm, ⟨7, _⟩ => ⟨S4x8x32x7168, .i8⟩
  | .hbm, ⟨8, _⟩ => ⟨S4x8x32x7168, .i32⟩
  | .hbm, ⟨9, _⟩ => ⟨S4x8x32x7168, .bf16⟩
  | .hbm, ⟨10, _⟩ => ⟨S4x8x1x7168, .bf16⟩
  | .hbm, ⟨11, _⟩ => ⟨S4x8x32x7168, .bf16⟩
  | .hbm, ⟨12, _⟩ => ⟨S4x8x32x7168, .bf16⟩
  | .hbm, ⟨13, _⟩ => ⟨S1024x7168, .bf16⟩
  | .hbm, ⟨14, _⟩ => ⟨S4x8x80, .bf16⟩
  | .hbm, ⟨15, _⟩ => ⟨S4x8x80x32, .bf16⟩
  | .hbm, ⟨16, _⟩ => ⟨S4x8x2560, .bf16⟩
  | .hbm, ⟨17, _⟩ => ⟨S4x8x32x2560, .i8⟩
  | .hbm, ⟨18, _⟩ => ⟨S4x8x32x2560, .i32⟩
  | .hbm, ⟨19, _⟩ => ⟨S4x8x32x2560, .bf16⟩
  | .hbm, ⟨20, _⟩ => ⟨S4x8x1x2560, .bf16⟩
  | .hbm, ⟨21, _⟩ => ⟨S4x8x32x2560, .bf16⟩
  | .hbm, ⟨22, _⟩ => ⟨S4x8x32x2560, .bf16⟩
  | .hbm, ⟨23, _⟩ => ⟨S1024x2560, .bf16⟩
  | .hbm, ⟨24, _⟩ => ⟨S7168x2560, .f32⟩
  | .hbm, ⟨25, _⟩ => ⟨S1024x2560, .f32⟩
  | .hbm, ⟨26, _⟩ => ⟨S_, .f32⟩
  | .hbm, ⟨27, _⟩ => ⟨S2560, .f32⟩
  | _, _ => ⟨S4x256x7168, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_cst : Ref sig .tc := ⟨.hbm, 26, rfl⟩
abbrev main_v22 : Ref sig .tc := ⟨.hbm, 27, rfl⟩

abbrev nD : Nat := 1
abbrev τ : Topo := Topo.v7x

variable {F : FTy → Type} [FloatOps F]
-- ==== Proof.Body.lean ====
/-
  The idealized kernel's body at one grid point: the first point fills the scratch and the bias buffer, and every point
  multiplies its block of activations with the scratch.
-/
module

public import proofs.«01_k».proof.Proof.Gen.KernelIdeal.Frame
public import proofs.«01_k».proof.Proof.Gen.KernelIdeal.Skeleton
public import Idealize.ShloMosaic.Lib.Pipeline.Value
public import Idealize.ShloMosaic.Lib.WritesUnit
public import Idealize.ShloMosaic.Lib.Claim

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 14 = 0 :=
  (fun t => by
    have ht : t.val < 14 := Nat.lt_of_lt_of_eq t.isLt N_0
    have e0 : (grid0.coords t 0).val = t.val / 1 % 14 := Pipeline.Grid.coords_val t 0 (by decide) rfl
    simp only [cond0_0, k0_cond1, e0]
    word_cmp
   : ∀ t : Fin grid0.N, cond0_0 (grid0.coords t) ↔ t.val % 14 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1024x512 .i8 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S32x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x2560 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S32x2560 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x2560 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x2560 .f32 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S1024x2560 .bf16 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-- The zero offset of a whole-buffer access. -/
theorem hz : (![0, 0] : Fin 2 → Nat) = fun _ => 0 := funext fun a => by fin_cases a <;> rfl

/-- One store over a whole staging buffer leaves exactly the stored value. -/
theorem read_store {κ : Kind} {sp : Space} {s : Shape} {e : EltTy} (v : View sig κ sp s e) (f : v.ty.Contents (Elt F))
    {off : Fin s.rank → Nat} (h : off = fun _ => 0) (inb : ∀ a, off a + s.size a ≤ s.size a) (w : s.Idx → Elt F e) :
    v.read (Elt F) (v.writes (Elt F) f [(⟨Rect.unit off s.size inb, w⟩ : View.Piece (Elt F) s e)]) = w :=
  funext fun y => View.read_writes_cons_unit_of_mem v f inb w [] y y h (fun a => by simp)

set_option maxHeartbeats 1000000 in
/-- At the first point the body fills the scratch with the dequantised gradient, the bias buffer with its column sums,
    and the product buffer with the product of the block and the scratch. -/
theorem run_A (c : Dev nD) (i : grid0.Coords) (arg1 : Memref sig .tc .vmem S1024x512 .i8) (harg1 : arg1.IsWhole) (arg2 : Memref sig .tc .vmem S32x512 .f32) (harg2 : arg2.IsWhole) (arg3 : Memref sig .tc .vmem S1024x2560 .i8) (harg3 : arg3.IsWhole) (arg4 : Memref sig .tc .vmem S32x2560 .f32) (harg4 : arg4.IsWhole) (arg5 : Memref sig .tc .vmem S512x2560 .f32) (harg5 : arg5.IsWhole) (arg6 : Memref sig .tc .vmem S1x2560 .f32) (harg6 : arg6.IsWhole) (arg7 : Memref sig .tc .vmem S1024x2560 .bf16) (harg7 : arg7.IsWhole) (hc0 : cond0_0 i)
    (x0 : Vec F S1024x512 .i8) (x1 : Vec F S32x512 .f32) (x2 : Vec F S1024x2560 .i8) (x3 : Vec F S32x2560 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (k0_pay4 x0 x1 (k0_pay2 x2 x3)) ∗ owns (c : Thread nD τ) arg6 fullShare (k0_pay3 x2 x3) ∗ owns (c : Thread nD τ) arg7 fullShare (k0_pay2 x2 x3)) -∗ K ⟨⟩))
          ⊢ wp frame (wpE (defs₀ (F := F)) Variants.none c none) E (cc0_wgrad i arg1 harg1 arg2 harg2 arg3 harg3 arg4 harg4 arg5 harg5 arg6 harg6 arg7 harg7) K := by
    intro E K
    simp only [cc0_wgrad_eq_skeleton]; unfold cc0_wgrad_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%ds0, %fs0, -, HS0⟩, Hk⟩
    obtain rfl := harg1.eq_unread hf0; obtain rfl := harg2.eq_unread hf1; obtain rfl := harg3.eq_unread hf2; obtain rfl := harg4.eq_unread hf3
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; swap; · iexact H4
      ipureintro
      sl_unfold_words
      rw [read_store _ _ hz, View.readCov_unit_zero (S := S1024x2560) _ hz]
      simp only [View.readAt_eq_ld, harg1.read_unread, harg2.read_unread, harg3.read_unread, harg4.read_unread, harg7.read_unread, View.ld_unit_zero (S := S1024x512) hz, View.ld_unit_zero (S := S32x512) hz, View.ld_unit_zero (S := S1024x2560) hz, View.ld_unit_zero (S := S32x2560) hz]
    isplitl [H5]
    · iexists _; isplitr; swap; · iexact H5
      ipureintro
      sl_unfold_words
      rw [read_store _ _ hz]
      simp only [View.readAt_eq_ld, harg1.read_unread, harg2.read_unread, harg3.read_unread, harg4.read_unread, harg7.read_unread, View.ld_unit_zero (S := S1024x512) hz, View.ld_unit_zero (S := S32x512) hz, View.ld_unit_zero (S := S1024x2560) hz, View.ld_unit_zero (S := S32x2560) hz]
    iexists _; isplitr; swap; · iexact HS0
    ipureintro
    sl_unfold_words
    rw [read_store _ _ hz]
    simp only [View.readAt_eq_ld, harg1.read_unread, harg2.read_unread, harg3.read_unread, harg4.read_unread, harg7.read_unread, View.ld_unit_zero (S := S1024x512) hz, View.ld_unit_zero (S := S32x512) hz, View.ld_unit_zero (S := S1024x2560) hz, View.ld_unit_zero (S := S32x2560) hz]

set_option maxHeartbeats 1000000 in
/-- At a later point: the scratch holds `s`, left as found; the bias buffer is left as found; the product buffer ends
    at the product of the block with `s`. -/
theorem run_B (c : Dev nD) (i : grid0.Coords) (arg1 : Memref sig .tc .vmem S1024x512 .i8) (harg1 : arg1.IsWhole) (arg2 : Memref sig .tc .vmem S32x512 .f32) (harg2 : arg2.IsWhole) (arg3 : Memref sig .tc .vmem S1024x2560 .i8) (harg3 : arg3.IsWhole) (arg4 : Memref sig .tc .vmem S32x2560 .f32) (harg4 : arg4.IsWhole) (arg5 : Memref sig .tc .vmem S512x2560 .f32) (harg5 : arg5.IsWhole) (arg6 : Memref sig .tc .vmem S1x2560 .f32) (harg6 : arg6.IsWhole) (arg7 : Memref sig .tc .vmem S1024x2560 .bf16) (harg7 : arg7.IsWhole) (hc0 : ¬cond0_0 i)
    (x0 : Vec F S1024x512 .i8) (x1 : Vec F S32x512 .f32) (x2 : Vec F S1024x2560 .i8) (x3 : Vec F S32x2560 .f32) (b : Vec F S1x2560 .f32) (s : Vec F S1024x2560 .bf16) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare b ∗ owns (c : Thread nD τ) arg7 fullShare s
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (k0_pay4 x0 x1 s) ∗ owns (c : Thread nD τ) arg6 fullShare b ∗ owns (c : Thread nD τ) arg7 fullShare s) -∗ K ⟨⟩))
          ⊢ wp frame (wpE (defs₀ (F := F)) Variants.none c none) E (cc0_wgrad i arg1 harg1 arg2 harg2 arg3 harg3 arg4 harg4 arg5 harg5 arg6 harg6 arg7 harg7) K := by
    intro E K
    simp only [cc0_wgrad_eq_skeleton]; unfold cc0_wgrad_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%fs0, %hfs0, HS0⟩, Hk⟩
    obtain rfl := harg1.eq_unread hf0; obtain rfl := harg2.eq_unread hf1; obtain rfl := harg3.eq_unread hf2; obtain rfl := harg4.eq_unread hf3; obtain rfl := harg6.eq_unread hf5; obtain rfl := harg7.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; swap; · iexact H4
      ipureintro
      sl_unfold_words
      rw [read_store _ _ hz]
      simp only [View.readAt_eq_ld, harg1.read_unread, harg2.read_unread, harg3.read_unread, harg4.read_unread, harg7.read_unread, View.ld_unit_zero (S := S1024x512) hz, View.ld_unit_zero (S := S32x512) hz, View.ld_unit_zero (S := S1024x2560) hz, View.ld_unit_zero (S := S32x2560) hz]
    isplitl [H5]
    · iexists _; isplitr; · ipureintro; exact harg6.read_unread _
      iexact H5
    iexists _; isplitr; · ipureintro; exact harg7.read_unread _
    iexact HS0

end Cert.KernelIdeal.Hand

end
-- ==== Proof.Run.lean ====
/-
  The run of the idealized kernel over its grid. The scratch and the bias buffer are filled at the first point and
  kept; the run ends with the product array written block by block and the bias row written back once.
-/
module

public import proofs.«01_k».proof.Proof.Body
public import Idealize.ShloMosaic.Lib.Pipeline.TableIdle

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The bias window: stored at the first point, written back at the last -/

/-- The bias window is live at the first point. -/
theorem liveAt0_5 (t : Fin cfg0.N) (h : t.val % 14 = 0) : cfg0.idle 5 (grid0.coords t) = false := by
  show (!(k0_cond1 (grid0.coords t) == 1#1)) = false
  rw [show k0_cond1 (grid0.coords t) = 1#1 from (hcond0_0 t).mpr h]; rfl
/-- It is idle at every later point. -/
theorem idleAt0_5 (t : Fin cfg0.N) (h : ¬t.val % 14 = 0) : cfg0.idle 5 (grid0.coords t) = true := by
  show (!(k0_cond1 (grid0.coords t) == 1#1)) = true
  rw [beq_false_of_ne (fun e => h ((hcond0_0 t).mp e))]; rfl

/-- After the first point the bias buffer is never fresh before the last write-back. -/
theorem fresh0_5 : ∀ n : ℕ, n + 1 < 14 → cfg0.fresh 5 (n + 1) = false
  | n, h => by
    have hN : cfg0.N = 14 := N_0
    have hn : n < cfg0.N := by omega
    rw [Cfg.fresh_succ cfg0 5 n hn]
    have hfl : (cfg0.win 5).flush ⟨n, hn⟩ = false := by
      rw [Bool.eq_false_iff]; intro e; have := (flush0_5 ⟨n, hn⟩).mp e; dsimp only at this; omega
    rw [hfl, Bool.false_or]
    cases n with
    | zero => rw [liveAt0_5 ⟨0, hn⟩ rfl]; rfl
    | succ n => rw [fresh0_5 n (by omega), Bool.and_false]

/-! ## The pipeline's proof data -/

/-- The dequantised gradient the first point leaves in the scratch. -/
def dyd (c : Dev nD) : Vec F S1024x2560 .bf16 := k0_pay2 (iblk m c 2 t0_0) (iblk m c 3 t0_0)
/-- Its column sums, which the first point leaves in the bias buffer. -/
def dbv (c : Dev nD) : Vec F S1x2560 .f32 := k0_pay3 (iblk m c 2 t0_0) (iblk m c 3 t0_0)

/-- The region invariant before position `n`: at the start the launch's; afterwards the scratch holds `dyd`. -/
def PhiS (c : Dev nD) : ℕ → sProp 𝕄
  | 0 => Pipeline.ΦA spec0 c
  | _ + 1 => iprop(iprop(owns (c : Thread nD τ) scM0_0 fullShare (dyd m c)) ∗ (∃ r, prngReg c r))

theorem PhiS_pos (c : Dev nD) (n : ℕ) (h : n ≠ 0) :
    PhiS m c n = iprop(iprop(owns (c : Thread nD τ) scM0_0 fullShare (dyd m c)) ∗ (∃ r, prngReg c r)) := by
  cases n with
  | zero => exact absurd rfl h
  | succ n => rfl

/-- The proof data: inputs at their blocks, the product buffer at the block's product with the scratch, the bias
    buffer at the column sums. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => k0_pay4 (iblk m c 0 t) (iblk m c 1 t) (dyd m c)
    | ⟨5, _⟩ => dbv m c
  Φ t := PhiS m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = k0_pay4 (iblk m c 0 t) (iblk m c 1 t) (dyd m c) := by dsimp only [dats]
theorem after0_5 (c : Dev nD) (t : Fin cfg0.N) : (dats m 0 c).after 5 t = dbv m c := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- After the first point the body finds the column sums in the bias buffer. -/
theorem before0_5 (c : Dev nD) (t : Fin cfg0.N) (h : ¬t.val % 14 = 0) (d) : (dats m 0 c).before 5 t d = dbv m c := by
  have hN : t.val < 14 := lt_of_lt_of_eq t.isLt (show cfg0.N = 14 from N_0)
  have ht0 : t.val ≠ 0 := fun e => h (by rw [e])
  have hfr : cfg0.fresh 5 t.val = false := by
    have := fresh0_5 (t.val - 1) (by omega)
    rwa [show t.val - 1 + 1 = t.val from by omega] at this
  rw [(dats m 0 c).before_out_traj 5 rfl (fun _ _ => rfl)
    (fun t _ _ _ => (after0_5 m c t).trans (after0_5 m c _).symm) t.val t rfl d, hfr, if_neg Bool.false_ne_true, after0_5]

/-- At a later point the bias buffer goes back as found, written back or not. -/
theorem leaves0_5 (c : Dev nD) (t : Fin cfg0.N) (h : ¬t.val % 14 = 0) :
    owns (c : Thread nD τ) (ms0_5 t) fullShare (dbv m c) ⊢ (dats m 0 c).leavesExact 5 t := by
  cases hf : (cfg0.win 5).flush t
  · rw [(dats m 0 c).leavesExact_idle 5 t (idleAt0_5 t h) hf]
    simp only [before0_5 m c t h]
    iintro H
    iexists (dbv m c)
    iexact H
  · unfold Dat.leavesExact
    rw [idleAt0_5 t h, hf, after0_5]

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

/-- A window that is never idle is left at its `after`. -/
theorem leaves_live (c : Dev nD) (w : Fin cfg0.W) (t : Fin cfg0.N) (h : cfg0.idle w (grid0.coords t) = false) :
    (dats m 0 c).leavesExact w t = owns (c : Thread nD τ) ((cfg0.win w).stage (cfg0.slots t w)) fullShare ((dats m 0 c).after w t) := by
  unfold Dat.leavesExact; rw [h]

set_option maxHeartbeats 800000 in
/-- The body at any point: the first point fills the scratch and the bias buffer, the later points read the scratch. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl,
    show (dats m 0 c).Φ t.succ = iprop(iprop(owns (c : Thread nD τ) scM0_0 fullShare (dyd m c)) ∗ (∃ r, prngReg c r)) from rfl,
    leaves_live m c 0 t (liveAt0_0 t), leaves_live m c 1 t (liveAt0_1 t), leaves_live m c 2 t (liveAt0_2 t),
    leaves_live m c 3 t (liveAt0_3 t), leaves_live m c 4 t rfl, after0_0, after0_1, after0_2, after0_3, after0_4]
  have hN : t.val < 14 := lt_of_lt_of_eq t.isLt (show cfg0.N = 14 from N_0)
  by_cases h0 : t.val % 14 = 0
  · obtain rfl : t = t0_0 := Fin.ext (by rw [show (t0_0 : Fin grid0.N).val = 0 from rfl]; omega)
    rw [leaves_live m c 5 t0_0 (liveAt0_5 t0_0 h0), after0_5,
      show (dats m 0 c).Φ (t0_0 : Fin cfg0.N).castSucc = Pipeline.ΦA spec0 c from rfl, PhiA0_eq]
    unfold dyd dbv
    iintro ⟨⟨HS0, Hg⟩, Ho, ⟨%d0, H0⟩, ⟨%d1, H1⟩, ⟨%d2, H2⟩, ⟨%d3, H3⟩, ⟨%d4, H4⟩, ⟨%d5, H5⟩⟩
    iapply ((run_A c (grid0.coords t0_0) _ _ _ _ _ _ _ _ _ _ _ _ _ _ ((hcond0_0 t0_0).mpr h0) (iblk m c 0 t0_0) (iblk m c 1 t0_0) (iblk m c 2 t0_0) (iblk m c 3 t0_0)) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS0]; · iexact HS0
    iintro ⟨H0, H1, H2, H3, H4, H5, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    iexact H5
  · rw [show (dats m 0 c).Φ t.castSucc = PhiS m c t.val from rfl, PhiS_pos m c t.val (fun e => h0 (by rw [e]))]
    simp only [before0_5 m c t h0]
    iintro ⟨⟨HS0, Hg⟩, Ho, ⟨%d0, H0⟩, ⟨%d1, H1⟩, ⟨%d2, H2⟩, ⟨%d3, H3⟩, ⟨%d4, H4⟩, ⟨%d5, H5⟩⟩
    iapply ((run_B c (grid0.coords t) _ _ _ _ _ _ _ _ _ _ _ _ _ _ (fun h => h0 ((hcond0_0 t).mp h)) (iblk m c 0 t) (iblk m c 1 t) (iblk m c 2 t) (iblk m c 3 t) (dbv m c) (dyd m c)) Set.univ _)
    isplitl [H0]; · iexact H0
    isplitl [H1]; · iexact H1
    isplitl [H2]; · iexact H2
    isplitl [H3]; · iexact H3
    isplitl [H4]; · iexists _; iexact H4
    isplitl [H5]; · iexact H5
    isplitl [HS0]; · iexact HS0
    iintro ⟨H0, H1, H2, H3, H4, H5, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    iapply (leaves0_5 m c t h0)
    iexact H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

/-- What the launch hands the region is the invariant before the first point. -/
theorem hin (c : Dev nD) : Pipeline.ΦA spec0 c ⊢ (dats m 0 c).Φ 0 := .rfl

/-- After the last point the invariant gives the launch's back. -/
theorem hout (c : Dev nD) : (dats m 0 c).Φ (Fin.last cfg0.N) ⊢ Pipeline.ΦA spec0 c := by
  rw [show (dats m 0 c).Φ (Fin.last cfg0.N) = PhiS m c cfg0.N from rfl, PhiS_pos m c _ (by have : cfg0.N = 14 := N_0; omega), PhiA0_eq]
  iintro ⟨HS0, Hg⟩
  isplitl [HS0]
  · iexists _; iexact HS0
  iexact Hg

set_option backward.isDefEq.respectTransparency.types false in
set_option maxHeartbeats 800000 in
/-- The run: every array of the pipeline at its final contents, every other buffer as the later host lines leave it,
    and every semaphore counter at zero. -/
theorem run_main_quiescent : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The run without the counters. -/
theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- The frame: the arguments end unchanged and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ))
    ((θ_run defs _ _).mono (fun _ h => h.2) (run_main_quiescent m ρ))

end Cert.KernelIdeal.Hand

end
-- ==== Proof.Spec.lean ====
/-
  The plain mathematics both programs compute: codes times block scales, the product of the two dequantised
  matrices over the tokens, and the column sums of the gradient.
-/
module

public import Idealize.ShloMosaic.Lib.Pointwise

@[expose] public section

noncomputable section

namespace Cert.WeightGrad

open Idealize.ShloMosaic Idealize.ShloMosaic.Pointwise

/-- Dequantised activation of token `k` (batch `k / 256`, position `k % 256`) at feature `i`: its code times the scale
    of its block of 32 positions and 32 features. -/
def xval (a0 : Vec Ideal ⟨3, ![4, 256, 7168]⟩ .i8) (a1 : Vec Ideal ⟨3, ![4, 8, 224]⟩ .f32) (k : Fin 1024) (i : Fin 7168) : EReal :=
  (FloatOps.sitofp .bf16 (a0 (ix3 ⟨k.val / 256, by omega⟩ ⟨k.val % 256, by omega⟩ i)) : Ideal .bf16)
    * a1 (ix3 ⟨k.val / 256, by omega⟩ ⟨k.val / 32 % 8, by omega⟩ ⟨i.val / 32, by omega⟩)

/-- Dequantised gradient of token `k` at feature `j`. -/
def yval (a2 : Vec Ideal ⟨3, ![4, 256, 2560]⟩ .i8) (a3 : Vec Ideal ⟨3, ![4, 8, 80]⟩ .f32) (k : Fin 1024) (j : Fin 2560) : EReal :=
  (FloatOps.sitofp .bf16 (a2 (ix3 ⟨k.val / 256, by omega⟩ ⟨k.val % 256, by omega⟩ j)) : Ideal .bf16)
    * a3 (ix3 ⟨k.val / 256, by omega⟩ ⟨k.val / 32 % 8, by omega⟩ ⟨j.val / 32, by omega⟩)

/-- The weight gradient: the product summed over the 1024 tokens. -/
def dW (a0 : Vec Ideal ⟨3, ![4, 256, 7168]⟩ .i8) (a1 : Vec Ideal ⟨3, ![4, 8, 224]⟩ .f32)
    (a2 : Vec Ideal ⟨3, ![4, 256, 2560]⟩ .i8) (a3 : Vec Ideal ⟨3, ![4, 8, 80]⟩ .f32) : Vec Ideal ⟨2, ![7168, 2560]⟩ .f32 :=
  fun o => ∑ k : Fin 1024, xval a0 a1 k (o 0) * yval a2 a3 k (o 1)

/-- The bias gradient: the column sums of the dequantised gradient. -/
def db (a2 : Vec Ideal ⟨3, ![4, 256, 2560]⟩ .i8) (a3 : Vec Ideal ⟨3, ![4, 8, 80]⟩ .f32) : Vec Ideal ⟨1, ![2560]⟩ .f32 :=
  fun o => ∑ k : Fin 1024, yval a2 a3 k (o 0)

end Cert.WeightGrad

end
-- ==== Proof.KernelPure.lean ====
/-
  What the idealized kernel's body computes, read at one index over the extended reals.
-/
module

public import proofs.«01_k».proof.Proof.Gen.KernelIdeal.Skeleton
public import Idealize.ShloMosaic.Lib.Pointwise

@[expose] public section

set_option maxRecDepth 16384

noncomputable section

namespace Cert.KernelIdeal.Pure

open Cert.KernelIdeal Cert.KernelIdeal.Gen
open Idealize.ShloMosaic Idealize.ShloMosaic.Pointwise

/-- The dequantised gradient: code times the scale of the row's block of 32. -/
theorem pay1_apply (x : Vec Ideal S1024x2560 .i8) (s : Vec Ideal S32x2560 .f32) (k : Fin 1024) (j : Fin 2560) :
    k0_pay1 x s (ix2 k j) = (FloatOps.sitofp .bf16 (x (ix2 k j)) : Ideal .bf16) * s (ix2 ⟨k.val / 32, by omega⟩ j) := by
  pointwise [k0_pay1]

/-- What the first point stores in the scratch. -/
theorem pay2_apply (x : Vec Ideal S1024x2560 .i8) (s : Vec Ideal S32x2560 .f32) (k : Fin 1024) (j : Fin 2560) :
    k0_pay2 x s (ix2 k j) = (FloatOps.sitofp .bf16 (x (ix2 k j)) : Ideal .bf16) * s (ix2 ⟨k.val / 32, by omega⟩ j) := by
  pointwise [k0_pay2]
  exact pay1_apply x s k j

/-- What the first point stores in the bias buffer: the column sums. -/
theorem pay3_apply (x : Vec Ideal S1024x2560 .i8) (s : Vec Ideal S32x2560 .f32) (r : Fin 1) (j : Fin 2560) :
    k0_pay3 x s (ix2 r j)
      = ∑ k : Fin 1024, (FloatOps.sitofp .bf16 (x (ix2 k j)) : Ideal .bf16) * s (ix2 ⟨k.val / 32, by omega⟩ j) := by
  pointwise [k0_pay3]
  exact Finset.sum_congr rfl fun k _ => pay1_apply x s k j

/-- What every point stores in the product buffer: the block's rows against the scratch, summed over the tokens. -/
theorem pay4_apply (x : Vec Ideal S1024x512 .i8) (s : Vec Ideal S32x512 .f32) (y : Vec Ideal S1024x2560 .bf16)
    (i : Fin 512) (j : Fin 2560) :
    k0_pay4 x s y (ix2 i j)
      = ∑ k : Fin 1024, (FloatOps.sitofp .bf16 (x (ix2 k i)) : Ideal .bf16) * s (ix2 ⟨k.val / 32, by omega⟩ i) * y (ix2 k j) := by
  pointwise [k0_pay4]

end Cert.KernelIdeal.Pure

end
-- ==== Proof.KernelValue.lean ====
/-
  The blocks the idealized kernel reads and the values it stores, as the specification's functions of the launch's
  arguments.
-/
module

public import proofs.«01_k».proof.Proof.Run
public import proofs.«01_k».proof.Proof.Spec
public import proofs.«01_k».proof.Proof.KernelPure

@[expose] public section

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-! ## The arrays the region finds, read at an index -/

theorem V6_apply (c : Dev nD) (k : Fin 1024) (i : Fin 7168) :
    (V m c main_v6 : Vec Ideal S1024x7168 .i8) (ix2 k i)
      = (m ((c : Thread nD τ).loc main_arg0) : Vec Ideal S4x256x7168 .i8) (ix3 ⟨k.val / 256, by omega⟩ ⟨k.val % 256, by omega⟩ i) := by
  unfold V V0
  simp only [hostOps0, List.flatten_cons, List.flatten_nil, List.append_nil]
  entry_read
  pointwise

theorem V7_apply (c : Dev nD) (k : Fin 1024) (j : Fin 2560) :
    (V m c main_v7 : Vec Ideal S1024x2560 .i8) (ix2 k j)
      = (m ((c : Thread nD τ).loc main_arg2) : Vec Ideal S4x256x2560 .i8) (ix3 ⟨k.val / 256, by omega⟩ ⟨k.val % 256, by omega⟩ j) := by
  unfold V V0
  simp only [hostOps0, List.flatten_cons, List.flatten_nil, List.append_nil]
  entry_read
  pointwise

theorem V2_apply (c : Dev nD) (g : Fin 32) (i : Fin 7168) :
    (V m c main_v2 : Vec Ideal S32x7168 .f32) (ix2 g i)
      = (m ((c : Thread nD τ).loc main_arg1) : Vec Ideal S4x8x224 .f32) (ix3 ⟨g.val / 8, by omega⟩ ⟨g.val % 8, by omega⟩ ⟨i.val / 32, by omega⟩) := by
  unfold V V0
  simp only [hostOps0, List.flatten_cons, List.flatten_nil, List.append_nil]
  entry_read
  pointwise

theorem V5_apply (c : Dev nD) (g : Fin 32) (j : Fin 2560) :
    (V m c main_v5 : Vec Ideal S32x2560 .f32) (ix2 g j)
      = (m ((c : Thread nD τ).loc main_arg3) : Vec Ideal S4x8x80 .f32) (ix3 ⟨g.val / 8, by omega⟩ ⟨g.val % 8, by omega⟩ ⟨j.val / 32, by omega⟩) := by
  unfold V V0
  simp only [hostOps0, List.flatten_cons, List.flatten_nil, List.append_nil]
  entry_read
  pointwise

/-! ## The windows' index maps -/

theorem index0 : ∀ t : Fin grid0.N, win0_0.index t 0 = 0 ∧ win0_0.index t 1 = t.val := by decide +kernel
theorem index1 : ∀ t : Fin grid0.N, win0_1.index t 0 = 0 ∧ win0_1.index t 1 = t.val := by decide +kernel
theorem index2 : ∀ t : Fin grid0.N, win0_2.index t 0 = 0 ∧ win0_2.index t 1 = 0 := by decide +kernel
theorem index3 : ∀ t : Fin grid0.N, win0_3.index t 0 = 0 ∧ win0_3.index t 1 = 0 := by decide +kernel
theorem index4 : ∀ t : Fin grid0.N, win0_4.index t 0 = t.val ∧ win0_4.index t 1 = 0 := by decide +kernel
theorem index5 : ∀ t : Fin grid0.N, win0_5.index t 0 = 0 ∧ win0_5.index t 1 = 0 := by decide +kernel

/-! ## The blocks, read at an index -/

theorem lt_feature (t : Fin cfg0.N) (q : Fin 512) : 512 * t.val + q.val < 7168 := by
  have hN : t.val < 14 := lt_of_lt_of_eq t.isLt (show cfg0.N = 14 from N_0)
  omega

theorem iblk0_apply (c : Dev nD) (t : Fin cfg0.N) (k : Fin 1024) (q : Fin 512) :
    (iblk m c 0 t : Vec Ideal S1024x512 .i8) (ix2 k q)
      = (V m c main_v6 : Vec Ideal S1024x7168 .i8) (ix2 k ⟨512 * t.val + q.val, lt_feature t q⟩) := by
  unfold iblk
  rw [View.read_apply]
  show (V m c main_v6 : Vec Ideal S1024x7168 .i8) _ = _
  congr 1
  funext a
  apply Fin.ext
  match a with
  | ⟨0, _⟩ => show win0_0.index t 0 * 1024 + 1 * k.val = k.val; rw [(index0 t).1]; omega
  | ⟨1, _⟩ => show win0_0.index t 1 * 512 + 1 * q.val = 512 * t.val + q.val; rw [(index0 t).2]; omega

theorem iblk1_apply (c : Dev nD) (t : Fin cfg0.N) (g : Fin 32) (q : Fin 512) :
    (iblk m c 1 t : Vec Ideal S32x512 .f32) (ix2 g q)
      = (V m c main_v2 : Vec Ideal S32x7168 .f32) (ix2 g ⟨512 * t.val + q.val, lt_feature t q⟩) := by
  unfold iblk
  rw [View.read_apply]
  show (V m c main_v2 : Vec Ideal S32x7168 .f32) _ = _
  congr 1
  funext a
  apply Fin.ext
  match a with
  | ⟨0, _⟩ => show win0_1.index t 0 * 32 + 1 * g.val = g.val; rw [(index1 t).1]; omega
  | ⟨1, _⟩ => show win0_1.index t 1 * 512 + 1 * q.val = 512 * t.val + q.val; rw [(index1 t).2]; omega

theorem iblk2_apply (c : Dev nD) (t : Fin cfg0.N) (k : Fin 1024) (j : Fin 2560) :
    (iblk m c 2 t : Vec Ideal S1024x2560 .i8) (ix2 k j) = (V m c main_v7 : Vec Ideal S1024x2560 .i8) (ix2 k j) := by
  unfold iblk
  rw [View.read_apply]
  show (V m c main_v7 : Vec Ideal S1024x2560 .i8) _ = _
  congr 1
  funext a
  apply Fin.ext
  match a with
  | ⟨0, _⟩ => show win0_2.index t 0 * 1024 + 1 * k.val = k.val; rw [(index2 t).1]; omega
  | ⟨1, _⟩ => show win0_2.index t 1 * 2560 + 1 * j.val = j.val; rw [(index2 t).2]; omega

theorem iblk3_apply (c : Dev nD) (t : Fin cfg0.N) (g : Fin 32) (j : Fin 2560) :
    (iblk m c 3 t : Vec Ideal S32x2560 .f32) (ix2 g j) = (V m c main_v5 : Vec Ideal S32x2560 .f32) (ix2 g j) := by
  unfold iblk
  rw [View.read_apply]
  show (V m c main_v5 : Vec Ideal S32x2560 .f32) _ = _
  congr 1
  funext a
  apply Fin.ext
  match a with
  | ⟨0, _⟩ => show win0_3.index t 0 * 32 + 1 * g.val = g.val; rw [(index3 t).1]; omega
  | ⟨1, _⟩ => show win0_3.index t 1 * 2560 + 1 * j.val = j.val; rw [(index3 t).2]; omega

/-! ## The values -/

/-- The specification's weight gradient of the launch's arguments. -/
def gW (c : Dev nD) : Vec Ideal S7168x2560 .f32 :=
  WeightGrad.dW (m ((c : Thread nD τ).loc main_arg0)) (m ((c : Thread nD τ).loc main_arg1))
    (m ((c : Thread nD τ).loc main_arg2)) (m ((c : Thread nD τ).loc main_arg3))
/-- The specification's bias gradient of the launch's arguments. -/
def gB (c : Dev nD) : Vec Ideal S2560 .f32 :=
  WeightGrad.db (m ((c : Thread nD τ).loc main_arg2)) (m ((c : Thread nD τ).loc main_arg3))

/-- The dequantised activation of a block, by the specification. -/
theorem xblk (c : Dev nD) (t : Fin cfg0.N) (k : Fin 1024) (q : Fin 512) :
    (FloatOps.sitofp .bf16 ((iblk m c 0 t : Vec Ideal S1024x512 .i8) (ix2 k q)) : Ideal .bf16)
        * (iblk m c 1 t : Vec Ideal S32x512 .f32) (ix2 ⟨k.val / 32, by omega⟩ q)
      = WeightGrad.xval (m ((c : Thread nD τ).loc main_arg0)) (m ((c : Thread nD τ).loc main_arg1)) k ⟨512 * t.val + q.val, lt_feature t q⟩ := by
  rw [iblk0_apply, iblk1_apply, V6_apply, V2_apply]
  unfold WeightGrad.xval
  have e : k.val / 32 / 8 = k.val / 256 := by omega
  simp only [e]

/-- The dequantised gradient, by the specification. -/
theorem yblk (c : Dev nD) (t : Fin cfg0.N) (k : Fin 1024) (j : Fin 2560) :
    (FloatOps.sitofp .bf16 ((iblk m c 2 t : Vec Ideal S1024x2560 .i8) (ix2 k j)) : Ideal .bf16)
        * (iblk m c 3 t : Vec Ideal S32x2560 .f32) (ix2 ⟨k.val / 32, by omega⟩ j)
      = WeightGrad.yval (m ((c : Thread nD τ).loc main_arg2)) (m ((c : Thread nD τ).loc main_arg3)) k j := by
  rw [iblk2_apply, iblk3_apply, V7_apply, V5_apply]
  unfold WeightGrad.yval
  have e : k.val / 32 / 8 = k.val / 256 := by omega
  simp only [e]

/-- The scratch holds the specification's dequantised gradient. -/
theorem dyd_apply (c : Dev nD) (k : Fin 1024) (j : Fin 2560) :
    dyd m c (ix2 k j) = WeightGrad.yval (m ((c : Thread nD τ).loc main_arg2)) (m ((c : Thread nD τ).loc main_arg3)) k j := by
  unfold dyd
  rw [Pure.pay2_apply]
  exact yblk m c t0_0 k j

/-- The bias buffer holds the specification's bias gradient. -/
theorem dbv_apply (c : Dev nD) (r : Fin 1) (j : Fin 2560) : dbv m c (ix2 r j) = gB m c (ix1 j) := by
  unfold dbv
  rw [Pure.pay3_apply]
  exact Finset.sum_congr rfl fun k _ => yblk m c t0_0 k j

/-- The product buffer at point `t` holds the specification's rows `512 t` and on. -/
theorem prod_apply (c : Dev nD) (t : Fin cfg0.N) (q : Fin 512) (j : Fin 2560) :
    k0_pay4 (iblk m c 0 t) (iblk m c 1 t) (dyd m c) (ix2 q j) = gW m c (ix2 ⟨512 * t.val + q.val, lt_feature t q⟩ j) := by
  rw [Pure.pay4_apply]
  show _ = ∑ k : Fin 1024,
    WeightGrad.xval (m ((c : Thread nD τ).loc main_arg0)) (m ((c : Thread nD τ).loc main_arg1)) k ⟨512 * t.val + q.val, lt_feature t q⟩
      * WeightGrad.yval (m ((c : Thread nD τ).loc main_arg2)) (m ((c : Thread nD τ).loc main_arg3)) k j
  exact Finset.sum_congr rfl fun k _ => by rw [xblk, dyd_apply]

end Cert.KernelIdeal.Hand

end
-- ==== Proof.KernelRun.lean ====
/-
  What the idealized kernel's two results hold after the run: the specification's weight gradient and bias gradient of
  the launch's arguments.
-/
module

public import proofs.«01_k».proof.Proof.KernelValue

@[expose] public section

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-! ## The product array -/

/-- The product window's block at a point, in numbers. -/
theorem block4 : ∀ t : Fin grid0.N, win0_4.index t 0 * win0_4.size 0 = t.val * 512
    ∧ win0_4.xsize (grid0.coords t) 0 = 512 ∧ win0_4.index t 1 * win0_4.size 1 = 0
    ∧ win0_4.xsize (grid0.coords t) 1 = 2560 := by decide +kernel

/-- Each written block is that block of the specification's weight gradient. -/
theorem flushed_W (c : Dev nD) (t : Fin cfg0.N) :
    (cfg0.win 4).cut (grid0.coords t) ((dats m 0 c).after 4 t) = ((cfg0.win 4).blk t).view.read (Elt Ideal) (gW m c) := by
  rw [after0_4]
  funext o
  rw [View.read_apply]
  show k0_pay4 (iblk m c 0 t) (iblk m c 1 t) (dyd m c) o = gW m c _
  obtain ⟨q, j, rfl⟩ : ∃ (q : Fin 512) (j : Fin 2560), o = ix2 q j := ⟨o 0, o 1, by funext a; match a with | ⟨0, _⟩ => rfl | ⟨1, _⟩ => rfl⟩
  rw [prod_apply]
  congr 1
  funext a
  apply Fin.ext
  match a with
  | ⟨0, _⟩ => show 512 * t.val + q.val = win0_4.index t 0 * 512 + 1 * q.val; rw [(index4 t).1]; omega
  | ⟨1, _⟩ => show j.val = win0_4.index t 1 * 2560 + 1 * j.val; rw [(index4 t).2]; omega

/-- The blocks cover the product array. -/
theorem cover_W (i : S7168x2560.Idx) :
    ∃ t : Fin cfg0.N, (cfg0.win 4).flush t = true ∧ i ∈ ((cfg0.win 4).blk t).view.set := by
  have h0 : (i 0 : Nat) < 7168 := (i 0).isLt
  have h1 : (i 1 : Nat) < 2560 := (i 1).isLt
  have hN : cfg0.N = 14 := N_0
  have ht : (i 0 : Nat) / 512 < cfg0.N := by omega
  refine ⟨⟨(i 0 : Nat) / 512, ht⟩, flush0_4 _, ?_⟩
  show i ∈ ((View.whole main_v8_0).slice (win0_4.rect ⟨(i 0 : Nat) / 512, ht⟩)).set
  rw [View.set_slice_whole, Rect.mem_set_unit]
  obtain ⟨e0, e1, e2, e3⟩ := block4 ⟨(i 0 : Nat) / 512, ht⟩
  intro a
  match a with
  | ⟨0, _⟩ => show win0_4.index ⟨(i 0 : Nat) / 512, ht⟩ 0 * win0_4.size 0 ≤ (i 0 : Nat)
                ∧ (i 0 : Nat) < win0_4.index ⟨(i 0 : Nat) / 512, ht⟩ 0 * win0_4.size 0 + win0_4.xsize (grid0.coords ⟨(i 0 : Nat) / 512, ht⟩) 0
              rw [e0, e1]; dsimp only; omega
  | ⟨1, _⟩ => show win0_4.index ⟨(i 0 : Nat) / 512, ht⟩ 1 * win0_4.size 1 ≤ (i 1 : Nat)
                ∧ (i 1 : Nat) < win0_4.index ⟨(i 0 : Nat) / 512, ht⟩ 1 * win0_4.size 1 + win0_4.xsize (grid0.coords ⟨(i 0 : Nat) / 512, ht⟩) 1
              rw [e2, e3]; omega

/-- The product array ends holding the specification's weight gradient. -/
theorem final_W (c : Dev nD) : (dats m 0 c).arrAt 4 cfg0.N = gW m c :=
  (dats m 0 c).arrAt_eq_of_cover 4 (gW m c) (fun t _ => flushed_W m c t) cover_W

/-! ## The bias row -/

/-- The bias gradient as the row the kernel writes. -/
def gRow (c : Dev nD) : Vec Ideal S1x2560 .f32 := fun o => gB m c (ix1 (o 1))

/-- The bias window's block is the whole row. -/
theorem block5 : ∀ t : Fin grid0.N, win0_5.index t 0 * win0_5.size 0 = 0
    ∧ win0_5.xsize (grid0.coords t) 0 = 1 ∧ win0_5.index t 1 * win0_5.size 1 = 0
    ∧ win0_5.xsize (grid0.coords t) 1 = 2560 := by decide +kernel

/-- The written block is the row. -/
theorem flushed_b (c : Dev nD) (t : Fin cfg0.N) :
    (cfg0.win 5).cut (grid0.coords t) ((dats m 0 c).after 5 t) = ((cfg0.win 5).blk t).view.read (Elt Ideal) (gRow m c) := by
  rw [after0_5]
  funext o
  rw [View.read_apply]
  show dbv m c o = gRow m c _
  obtain ⟨q, j, rfl⟩ : ∃ (q : Fin 1) (j : Fin 2560), o = ix2 q j := ⟨o 0, o 1, by funext a; match a with | ⟨0, _⟩ => rfl | ⟨1, _⟩ => rfl⟩
  rw [dbv_apply]
  unfold gRow
  congr 2
  apply Fin.ext
  show j.val = win0_5.index t 1 * 2560 + 1 * j.val
  rw [(index5 t).2]; omega

/-- It covers the bias array. -/
theorem cover_b (i : S1x2560.Idx) :
    ∃ t : Fin cfg0.N, (cfg0.win 5).flush t = true ∧ i ∈ ((cfg0.win 5).blk t).view.set := by
  have h0 : (i 0 : Nat) < 1 := (i 0).isLt
  have h1 : (i 1 : Nat) < 2560 := (i 1).isLt
  have hN : cfg0.N = 14 := N_0
  have ht : 13 < cfg0.N := by omega
  refine ⟨⟨13, ht⟩, (flush0_5 _).mpr rfl, ?_⟩
  show i ∈ ((View.whole main_v8_1).slice (win0_5.rect ⟨13, ht⟩)).set
  rw [View.set_slice_whole, Rect.mem_set_unit]
  obtain ⟨e0, e1, e2, e3⟩ := block5 ⟨13, ht⟩
  intro a
  match a with
  | ⟨0, _⟩ => show win0_5.index ⟨13, ht⟩ 0 * win0_5.size 0 ≤ (i 0 : Nat)
                ∧ (i 0 : Nat) < win0_5.index ⟨13, ht⟩ 0 * win0_5.size 0 + win0_5.xsize (grid0.coords ⟨13, ht⟩) 0
              rw [e0, e1]; omega
  | ⟨1, _⟩ => show win0_5.index ⟨13, ht⟩ 1 * win0_5.size 1 ≤ (i 1 : Nat)
                ∧ (i 1 : Nat) < win0_5.index ⟨13, ht⟩ 1 * win0_5.size 1 + win0_5.xsize (grid0.coords ⟨13, ht⟩) 1
              rw [e2, e3]; omega

/-- The bias row ends holding the specification's bias gradient. -/
theorem final_b (c : Dev nD) : (dats m 0 c).arrAt 5 cfg0.N = gRow m c :=
  (dats m 0 c).arrAt_eq_of_cover 5 (gRow m c) (fun t _ => flushed_b m c t) cover_b

/-! ## The second result: the row, reshaped after the region -/

/-- The reshape of the bias row is the specification's bias gradient. -/
theorem row_eq (c : Dev nD) : shapeCast S2560 (gRow m c) shapeCasts_S1x2560_S2560 = gB m c := by
  funext o
  idx_vars o
  pointwise [gRow]

/-- The windows' arrays are distinct. -/
theorem arr_inj : Function.Injective (Pipeline.arrRef spec0) := launch0.win.arr_inj

/-- What the second result's buffer ends holding. -/
theorem tail_b (c : Dev nD) :
    Pipeline.afterTail₀ cfgs (dats m) 0 (V0 m) [hostOps1] c main_v9 = gB m c := by
  have e : Pipeline.withArrays (cfgs 0).spec c (V0 m c) (fun w => (dats m 0 c).arrAt w (cfgs 0).N) (Proc.devRef .tc main_v8_1) = gRow m c :=
    (Pipeline.withArrays_arr (cfgs 0).spec arr_inj c (V0 m c) (fun w => (dats m 0 c).arrAt w (cfgs 0).N) 5).trans (final_b m c)
  refine Eq.trans ?_ (row_eq m c)
  rw [← e]
  unfold Pipeline.afterTail₀
  simp only [hostOps1, List.flatten_cons, List.flatten_nil, List.append_nil]
  after_results <;> rfl

/-! ## The run -/

/-- The run, read: both results at the specification's values. -/
theorem run : θ_run defs (onTc (τ := τ) (main (F := Ideal))) ⟨m, fun _ => 0, ρ⟩ fun r => ∀ c : Dev nD,
      r.2.mem ((c : Thread nD τ).loc main_v8_0) = gW m c
      ∧ r.2.mem ((c : Thread nD τ).loc main_v9) = gB m c :=
  (θ_run defs _ _).mono (fun _ h c => ⟨((h c).1 4).trans (final_W m c),
      ((h c).2 main_v9 (Pipeline.mem_restRefs_of main_v9 (by decide) (by decide))).trans (tail_b m c)⟩)
    (run_main m ρ)

end Cert.KernelIdeal.Hand

end
-- ==== Proof.SameText.lean ====
/-
  The kernel and its idealization are one text: no operation was rewritten. So the idealized kernel's frame, proved at
  every float instance, is the kernel's.
-/
module

public import proofs.«01_k».proof.Defs
public import proofs.«01_k».proof.Proof.Gen.Kernel
public import proofs.«01_k».proof.Proof.Run

@[expose] public section

noncomputable section

namespace Cert.SameText

open Idealize.ShloMosaic Idealize.ShloMosaic.TcCoe Idealize.SL.Sem

variable {F : FTy → Type} [FloatOps F]

/-- The two programs' bodies are one function. -/
theorem defs₀_eq : Cert.Kernel.defs₀ (F := F) = Cert.KernelIdeal.defs₀ (F := F) := by
  unfold Cert.Kernel.defs₀ Cert.KernelIdeal.defs₀
  congr 1
  funext l a
  match l, a with
  | 0, (t, s) => rfl

/-- So are their tables with the pipeline's labels. -/
theorem defs_eq : Cert.Kernel.defs (F := F) = Cert.KernelIdeal.defs (F := F) :=
  congrArg (Pipeline.defs Cert.KernelIdeal.pcfgs) defs₀_eq

/-- The kernel's frame: its arguments end unchanged and every counter is zero. -/
theorem frame (m : (ℓ : Loc Cert.Kernel.nD Cert.Kernel.τ Cert.Kernel.sig) → Buf (Elt F) ℓ) (ρ : Dev Cert.Kernel.nD → PrngReg) :
    θ_run Cert.Kernel.defs (onTc (τ := Cert.Kernel.τ) (Cert.Kernel.main (F := F))) ⟨m, fun _ => 0, ρ⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0) := by
  rw [defs_eq]
  exact Cert.KernelIdeal.Hand.frame m ρ

end Cert.SameText

end
-- ==== Proof.RefPure.lean ====
/-
  What the reference computes, read at one index over the extended reals.
-/
module

public import proofs.«01_k».proof.Proof.Gen.ReferenceIdeal
public import proofs.«01_k».proof.Proof.Spec

@[expose] public section

set_option maxRecDepth 16384

noncomputable section

namespace Cert.ReferenceIdeal.Pure

open Cert.ReferenceIdeal Cert.ReferenceIdeal.Gen
open Idealize.ShloMosaic Idealize.ShloMosaic.Pointwise

/-- The reference's dequantised activations. -/
def xd (a0 : Vec Ideal S4x256x7168 .i8) (a1 : Vec Ideal S4x8x224 .f32) : FVec Ideal S1024x7168 .bf16 :=
  shapeCast _ (mulf (sitofp .bf16 (extsi 32 (shapeCast _ a0 shapeCasts_S4x256x7168_S4x8x32x7168) natLt_8_32)) (broadcastInDim S4x8x32x7168 ![0, 1, 2, 3] bcast_S4x8x1x7168_S4x8x32x7168_0_1_2_3 (broadcastInDim S4x8x1x7168 ![0, 1, 3] bcast_S4x8x7168_S4x8x1x7168_0_1_3 (shapeCast _ (broadcastInDim S4x8x224x32 ![0, 1, 2] bcast_S4x8x224_S4x8x224x32_0_1_2 (truncf .bf16 a1 bitsLt_bf16_f32)) shapeCasts_S4x8x224x32_S4x8x7168)))) shapeCasts_S4x8x32x7168_S1024x7168

/-- The reference's dequantised gradient. -/
def yd (a2 : Vec Ideal S4x256x2560 .i8) (a3 : Vec Ideal S4x8x80 .f32) : FVec Ideal S1024x2560 .bf16 :=
  shapeCast _ (mulf (sitofp .bf16 (extsi 32 (shapeCast _ a2 shapeCasts_S4x256x2560_S4x8x32x2560) natLt_8_32)) (broadcastInDim S4x8x32x2560 ![0, 1, 2, 3] bcast_S4x8x1x2560_S4x8x32x2560_0_1_2_3 (broadcastInDim S4x8x1x2560 ![0, 1, 3] bcast_S4x8x2560_S4x8x1x2560_0_1_3 (shapeCast _ (broadcastInDim S4x8x80x32 ![0, 1, 2] bcast_S4x8x80_S4x8x80x32_0_1_2 (truncf .bf16 a3 bitsLt_bf16_f32)) shapeCasts_S4x8x80x32_S4x8x2560)))) shapeCasts_S4x8x32x2560_S1024x2560

/-- Widening a code to 32 bits first does not change its value. -/
theorem sitofp_wide (b : BitVec 8) : (FloatOps.sitofp .bf16 (BitVec.signExtend 32 b) : Ideal .bf16) = FloatOps.sitofp .bf16 b := by
  show (((BitVec.signExtend 32 b).toInt : ℝ) : EReal) = ((b.toInt : ℝ) : EReal)
  rw [BitVec.toInt_signExtend_of_le (by decide)]

theorem xd_apply (a0 : Vec Ideal S4x256x7168 .i8) (a1 : Vec Ideal S4x8x224 .f32) (k : Fin 1024) (j : Fin 7168) :
    xd a0 a1 (ix2 k j) = WeightGrad.xval a0 a1 k j := by
  pointwise [xd, WeightGrad.xval]
  rw [sitofp_wide]
  have e : k.val / 32 % 8 * 32 + k.val % 32 = k.val % 256 := by omega
  simp only [e]

theorem yd_apply (a2 : Vec Ideal S4x256x2560 .i8) (a3 : Vec Ideal S4x8x80 .f32) (k : Fin 1024) (j : Fin 2560) :
    yd a2 a3 (ix2 k j) = WeightGrad.yval a2 a3 k j := by
  pointwise [yd, WeightGrad.yval]
  rw [sitofp_wide]
  have e : k.val / 32 % 8 * 32 + k.val % 32 = k.val % 256 := by omega
  simp only [e]

/-- The reference's weight gradient is the specification's. -/
theorem dW_eq (a0 : Vec Ideal S4x256x7168 .i8) (a1 : Vec Ideal S4x8x224 .f32) (a2 : Vec Ideal S4x256x2560 .i8)
    (a3 : Vec Ideal S4x8x80 .f32) :
    (Host.dotGeneral dot_S1024x7168_S1024x2560_S7168x2560_0_0_1_1_n_n none (xd a0 a1) (yd a2 a3) : FVec Ideal S7168x2560 .f32)
      = WeightGrad.dW a0 a1 a2 a3 := by
  funext o
  idx_vars o
  pointwise [WeightGrad.dW]
  simp only [xd_apply, yd_apply]

/-- The reference's bias gradient is the specification's. -/
theorem db_eq (a2 : Vec Ideal S4x256x2560 .i8) (a3 : Vec Ideal S4x8x80 .f32) :
    (Host.reduceAdd (extf .f32 (yd a2 a3) bitsLt_bf16_f32) (constant S_ .f32 0x00000000#32) reducesTo_S1024x2560_S2560_d0 h_S_ : FVec Ideal S2560 .f32)
      = WeightGrad.db a2 a3 := by
  funext o
  idx_vars o
  pointwise [WeightGrad.db]
  simp only [yd_apply]

end Cert.ReferenceIdeal.Pure

end
-- ==== Proof.lean ====
/-
  The certificate's claim: the weight-gradient kernel and its idealization run and leave their arguments and counters
  as found, so does the reference, and over the extended reals the kernel's two results are the reference's.
-/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelRun
public import proofs.«01_k».proof.Proof.SameText
public import proofs.«01_k».proof.Proof.RefPure
public import Idealize.ShloMosaic.Lib.Quiescent
public import Idealize.ShloMosaic.Adequacy
public import Idealize.ShloMosaic.Init

@[expose] public section

noncomputable section

namespace Cert.Proof

open Idealize.ShloMosaic Idealize.SL.Sem

/-- The reference runs, its arguments end unchanged, and its counters are zero. -/
theorem reference_frame : Cert.quiescent_ReferenceIdeal (hReferenceIdeal := Cert.ReferenceIdeal.Gen.facts) :=
  fun m ρ _ => (θ_run Cert.ReferenceIdeal.defs _ _).mono
    (fun r h => ⟨fun c => (h c).2.2, Idealize.ShloMosaic.sem_eq_zero_of_no_sems (by decide) r.2⟩)
    (Cert.ReferenceIdeal.Value.run (F := Ideal) m ρ)

/-- From agreeing arguments both programs end with the specification's weight gradient and bias gradient. -/
theorem algebraic : Cert.algebraic_KernelIdeal_ReferenceIdeal (hKernelIdeal := Cert.KernelIdeal.Gen.facts)
    (hReferenceIdeal := Cert.ReferenceIdeal.Gen.facts) := by
  intro m ρ m' ρ' _ hagree
  refine ⟨Cert.KernelIdeal.Hand.gW m, Cert.KernelIdeal.Hand.gB m, ?_, ?_⟩
  · exact (θ_run Cert.KernelIdeal.defs _ _).mono (fun _ h c => ⟨(h.1 c).1, (h.1 c).2, h.2.1 c⟩)
      (θ_run_and (Cert.KernelIdeal.Hand.run m ρ) (Cert.KernelIdeal.Hand.frame m ρ))
  · refine (θ_run Cert.ReferenceIdeal.defs _ _).mono (fun r h c => ⟨?_, ?_, (h c).2.2⟩)
      (Cert.ReferenceIdeal.Value.run (F := Ideal) m' ρ')
    · refine ((h c).1.trans (Cert.ReferenceIdeal.Pure.dW_eq _ _ _ _)).trans ?_
      obtain ⟨e0, e1, e2, e3⟩ := hagree c
      rw [e0, e1, e2, e3]; rfl
    · refine ((h c).2.1.trans (Cert.ReferenceIdeal.Pure.db_eq _ _)).trans ?_
      obtain ⟨e0, e1, e2, e3⟩ := hagree c
      rw [e2, e3]; rfl

/-- The claim. -/
theorem claim : Cert.Claim :=
  ⟨Cert.Kernel.Gen.facts, Cert.KernelIdeal.Gen.facts, Cert.ReferenceIdeal.Gen.facts,
    fun m ρ _ => Cert.SameText.frame m ρ, fun m ρ _ => Cert.KernelIdeal.Hand.frame m ρ, reference_frame, trivial, algebraic⟩

end Cert.Proof

end
